-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v4) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S1024x200x128 : Shape := ⟨3, ![1024, 200, 128]⟩
abbrev S200x128 : Shape := ⟨2, ![200, 128]⟩
abbrev S64x200x128 : Shape := ⟨3, ![64, 200, 128]⟩
abbrev S1x200x128 : Shape := ⟨3, ![1, 200, 128]⟩

abbrev nBuf : Space → Nat
  | .hbm => 3
  | .vmem => 5
  | .smem => 0
  | _ => 0

abbrev bufTy : (tb : Table) → Fin (tcTables nBuf tb) → BufTy
  | .hbm, ⟨0, _⟩ => ⟨S1024x200x128, .f32⟩
  | .hbm, ⟨1, _⟩ => ⟨S200x128, .f32⟩
  | .hbm, ⟨2, _⟩ => ⟨S1024x200x128, .f32⟩
  | .local _ .vmem, ⟨0, _⟩ => ⟨S64x200x128, .f32⟩
  | .local _ .vmem, ⟨1, _⟩ => ⟨S64x200x128, .f32⟩
  | .local _ .vmem, ⟨2, _⟩ => ⟨S200x128, .f32⟩
  | .local _ .vmem, ⟨3, _⟩ => ⟨S64x200x128, .f32⟩
  | .local _ .vmem, ⟨4, _⟩ => ⟨S64x200x128, .f32⟩
  | _, _ => ⟨S1024x200x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference.lean ====
abbrev S1024x200x128 : Shape := ⟨3, ![1024, 200, 128]⟩
abbrev S200x128 : Shape := ⟨2, ![200, 128]⟩
abbrev S200 : Shape := ⟨1, ![200]⟩
abbrev S_ : Shape := ⟨0, ![]⟩
abbrev S200x1 : Shape := ⟨2, ![200, 1]⟩
abbrev S1 : Shape := ⟨1, ![1]⟩
abbrev S1x1 : Shape := ⟨2, ![1, 1]⟩
abbrev S1x200x128 : Shape := ⟨3, ![1, 200, 128]⟩

abbrev nBuf : Space → Nat
  | .hbm => 29
  | .vmem => 0
  | .smem => 0
  | _ => 0

abbrev bufTy : (tb : Table) → Fin (tcTables nBuf tb) → BufTy
  | .hbm, ⟨0, _⟩ => ⟨S1024x200x128, .f32⟩
  | .hbm, ⟨1, _⟩ => ⟨S200x128, .f32⟩
  | .hbm, ⟨2, _⟩ => ⟨S200, .i32⟩
  | .hbm, ⟨3, _⟩ => ⟨S_, .i32⟩
  | .hbm, ⟨4, _⟩ => ⟨S200, .i32⟩
  | .hbm, ⟨5, _⟩ => ⟨S200, .i1⟩
  | .hbm, ⟨6, _⟩ => ⟨S_, .i32⟩
  | .hbm, ⟨7, _⟩ => ⟨S200, .i32⟩
  | .hbm, ⟨8, _⟩ => ⟨S200, .i32⟩
  | .hbm, ⟨9, _⟩ => ⟨S200, .i32⟩
  | .hbm, ⟨10, _⟩ => ⟨S200x1, .i32⟩
  | .hbm, ⟨11, _⟩ => ⟨S1, .i32⟩
  | .hbm, ⟨12, _⟩ => ⟨S_, .i32⟩
  | .hbm, ⟨13, _⟩ => ⟨S200x1, .i32⟩
  | .hbm, ⟨14, _⟩ => ⟨S200x1, .i1⟩
  | .hbm, ⟨15, _⟩ => ⟨S1x1, .i32⟩
  | .hbm, ⟨16, _⟩ => ⟨S200x1, .i32⟩
  | .hbm, ⟨17, _⟩ => ⟨S200x1, .i1⟩
  | .hbm, ⟨18, _⟩ => ⟨S200x1, .i1⟩
  | .hbm, ⟨19, _⟩ => ⟨S_, .i1⟩
  | .hbm, ⟨20, _⟩ => ⟨S200, .i1⟩
  | .hbm, ⟨21, _⟩ => ⟨S200x128, .f32⟩
  | .hbm, ⟨22, _⟩ => ⟨S200x128, .i1⟩
  | .hbm, ⟨23, _⟩ => ⟨S_, .f32⟩
  | .hbm, ⟨24, _⟩ => ⟨S200x128, .f32⟩
  | .hbm, ⟨25, _⟩ => ⟨S200x128, .f32⟩
  | .hbm, ⟨26, _⟩ => ⟨S1x200x128, .f32⟩
  | .hbm, ⟨27, _⟩ => ⟨S1024x200x128, .f32⟩
  | .hbm, ⟨28, _⟩ => ⟨S1024x200x128, .f32⟩
  | _, _ => ⟨S1024x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.KernelValue.lean ====
/-
  What the pipelined kernel leaves in its result array. The grid has 16 points; point `t` stages rows `64·t … 64·t + 63`
  of the batch and the whole position table, adds the table to every one of those rows, and writes the sum back. The array
  therefore ends at `x[b, p, d] + pos_table[p, d]` at every index `(b, p, d)`.
-/
module

public import proofs.«01_k».proof.Proof.Gen.KernelIdeal.Value
public import Idealize.ShloMosaic.Lib.ValueIdxCore

@[expose] public section

noncomputable section

namespace Cert.KernelIdeal.PosAdd

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

/-- The batch with the position table added to each of its rows: `x[b, p, d] + pos_table[p, d]`. -/
abbrev posAdd (c : Dev nD) : Buf (Elt F) ((c : Thread nD τ).loc main_v0) := fun i : S1024x200x128.Idx =>
  FloatOps.addf (m ((c : Thread nD τ).loc main_arg0) i)
    (m ((c : Thread nD τ).loc main_arg1) (ix2 (n0 := 200) (n1 := 128) (i 1) (i 2)))

theorem zero3 : (![0, 0, 0] : Fin 3 → Nat) = fun _ => 0 := funext fun a => by fin_cases a <;> rfl
theorem zero2 : (![0, 0] : Fin 2 → Nat) = fun _ => 0 := funext fun a => by fin_cases a <;> rfl

/-- The position table's block is the whole table at every point. -/
theorem table_block (c : Dev nD) (t : Fin cfg0.N) (y : S200x128.Idx) :
    iblk m c 1 t y = m ((c : Thread nD τ).loc main_arg1) y := by
  show m ((c : Thread nD τ).loc main_arg1) ((win0_1.rect t).emb y) = _
  refine congrArg _ (funext fun a => Fin.ext ?_)
  exact win0_1.rect_emb_val_of_index_zero t a (by match a with | ⟨0, _⟩ => rfl | ⟨1, _⟩ => rfl) y

/-- What point `t` writes back is its block of `posAdd`. -/
theorem flushed_eq (c : Dev nD) (t : Fin cfg0.N) :
    (dats m 0 c).flushed 2 t = (win0_2.blk t).view.read (Elt F) (posAdd m c) := by
  rw [Value.flushed2]
  funext y
  show out0_2 (iblk m c 0 t) (iblk m c 1 t) y = posAdd m c ((win0_2.rect t).emb y)
  unfold out0_2
  rw [Value.canon2_eq, View.ld_unit_zero zero3, View.ld_unit_zero zero2]
  show FloatOps.addf (iblk m c 0 t (Value.ix2_0 y)) (iblk m c 1 t (Value.ix2_1 y)) = _
  rw [table_block]
  refine congrArg₂ FloatOps.addf ?_ ?_
  · show m ((c : Thread nD τ).loc main_arg0) ((win0_0.rect t).emb (Value.ix2_0 y)) = _
    rw [show Value.ix2_0 y = y from funext fun a => Fin.ext (by match a with | ⟨0, _⟩ => rfl | ⟨1, _⟩ => rfl | ⟨2, _⟩ => rfl)]
    rfl
  · refine congrArg _ (funext fun a => Fin.ext ?_)
    match a with
    | ⟨0, _⟩ => exact (win0_2.rect_emb_val_of_index_zero t 1 rfl y).symm
    | ⟨1, _⟩ => exact (win0_2.rect_emb_val_of_index_zero t 2 rfl y).symm

/-- The 16 blocks of 64 batch rows tile the result: row `b` is in the block of point `b / 64`. -/
theorem cover (i : S1024x200x128.Idx) :
    ∃ t : Fin cfg0.N, (cfg0.win 2).flush t = true ∧ i ∈ ((cfg0.win 2).blk t).view.set := by
  have h0 : (i 0 : Nat) < 1024 := (i 0).isLt
  have h1 : (i 1 : Nat) < 200 := (i 1).isLt
  have h2 : (i 2 : Nat) < 128 := (i 2).isLt
  have hN : cfg0.N = 16 := N_0
  refine ⟨⟨(i 0 : Nat) / 64, by omega⟩, flush0_2 _, ?_⟩
  generalize ht : (⟨(i 0 : Nat) / 64, by omega⟩ : Fin cfg0.N) = t
  have hv : t.val = (i 0 : Nat) / 64 := by rw [← ht]
  show i ∈ ((View.whole main_v0).slice (win0_2.rect t)).set
  rw [View.set_slice_whole, Rect.mem_set_unit]
  have e : ∀ t : Fin grid0.N, win0_2.index t 0 = t.val := by decide +kernel
  intro a
  match a with
  | ⟨0, _⟩ =>
    show win0_2.index t 0 * 64 ≤ (i 0 : Nat) ∧ (i 0 : Nat) < win0_2.index t 0 * 64 + 64
    rw [e t]; omega
  | ⟨1, _⟩ => show 0 * 200 ≤ (i 1 : Nat) ∧ (i 1 : Nat) < 0 * 200 + 200; omega
  | ⟨2, _⟩ => show 0 * 128 ≤ (i 2 : Nat) ∧ (i 2 : Nat) < 0 * 128 + 128; omega

/-- After the run the result array is `posAdd` of the arguments' launch contents. -/
theorem final (c : Dev nD) : (dats m 0 c).arrAt 2 cfg0.N = posAdd m c :=
  (dats m 0 c).arrAt_eq_of_cover 2 (posAdd m c) (fun t _ => flushed_eq m c t) cover

/-- Every execution of the kernel ends with the result at `posAdd` and the arguments unchanged. -/
theorem run : θ_run defs (onTc (τ := τ) (main (F := F))) ⟨m, fun _ => 0, ρ⟩ fun r => ∀ c : Dev nD,
      r.2.mem ((c : Thread nD τ).loc main_v0) = posAdd m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.PosAdd

end
-- ==== Proof.SameRun.lean ====
/-
  The kernel at the bit patterns. The ideal pass rewrote nothing, so the kernel and its idealization are one program printed
  twice, and what `PosAdd.run` proves of it for any float values holds of the kernel too.
-/
module

public import proofs.«01_k».proof.Proof.KernelValue
public import proofs.«01_k».proof.Proof.Gen.Kernel.Frame

@[expose] public section

noncomputable section

namespace Cert.Kernel.PosAdd

open Cert.Kernel Cert.Kernel.Gen Idealize.ShloMosaic Idealize.ShloMosaic.TcCoe Idealize.SL.Sem
open Idealize.ShloMosaic.ValueIdx

variable {F : FTy → Type} [FloatOps F]
variable (m : (ℓ : Loc nD τ sig) → Buf (Elt F) ℓ) (ρ : Dev nD → PrngReg)

/-- The two printings have one table of kernel functions: its one row is the same body at the same staging buffers. -/
theorem table_eq : defs₀ (F := F) = Cert.KernelIdeal.defs₀ (F := F) :=
  congrArg Defs.onTc (funext fun ℓ => funext fun a => by
    match ℓ, a with
    | ⟨0, _⟩, _ => rfl
    | ⟨n + 1, h⟩, _ => exact absurd h (by omega))

/-- So they have one table of regions and pipelines. -/
theorem defs_eq : defs (F := F) = Cert.KernelIdeal.defs (F := F) :=
  congrArg (Pipeline.defs pcfgs) table_eq

/-- Every execution of the kernel ends with the result at `x[b, p, d] + pos_table[p, d]` and the arguments unchanged. -/
theorem run : θ_run defs (onTc (τ := τ) (main (F := F))) ⟨m, fun _ => 0, ρ⟩ fun r => ∀ c : Dev nD,
      r.2.mem ((c : Thread nD τ).loc main_v0) = (fun i : S1024x200x128.Idx =>
        FloatOps.addf (m ((c : Thread nD τ).loc main_arg0) i)
          (m ((c : Thread nD τ).loc main_arg1) (ix2 (n0 := 200) (n1 := 128) (i 1) (i 2))))
      ∧ r.2.mem ((c : Thread nD τ).loc main_arg0) = m ((c : Thread nD τ).loc main_arg0)
      ∧ r.2.mem ((c : Thread nD τ).loc main_arg1) = m ((c : Thread nD τ).loc main_arg1) :=
  defs_eq (F := F) ▸ Cert.KernelIdeal.PosAdd.run m ρ

end Cert.Kernel.PosAdd

end
-- ==== Proof.Positions.lean ====
/-
  The positions lookup of the reference, as mathematics. `jnp.take(table, arange(200), axis=0)` prints as a gather of the
  table's rows with three safeguards: a negative position is shifted up by 200, the gather clamps, and a row whose position
  is out of range is replaced by NaN. The positions are 0 … 199, so none of the three acts and the lookup is the table.
-/
module

public import Idealize.ShloMosaic.Lib.Pipeline.Value
public import Idealize.ShloMosaic.Lib.ReduceAll
public import Idealize.ShloMosaic.Lib.Routing.Ops

@[expose] public section

noncomputable section

namespace Cert.Positions

open Idealize.ShloMosaic Idealize.ShloMosaic.ValueIdx

abbrev Sc : Shape := ⟨0, ![]⟩
abbrev One : Shape := ⟨1, ![1]⟩
abbrev OneOne : Shape := ⟨2, ![1, 1]⟩
abbrev Pos : Shape := ⟨1, ![200]⟩
abbrev Col : Shape := ⟨2, ![200, 1]⟩
abbrev Tab : Shape := ⟨2, ![200, 128]⟩
abbrev OneTab : Shape := ⟨3, ![1, 200, 128]⟩
abbrev Batch : Shape := ⟨3, ![1024, 200, 128]⟩

/-- A position `r < 200` is not negative, so it is kept as it is. -/
theorem kept : ∀ r < 200, Scalar.select (IntOp.cmpi .slt (BitVec.ofNat 32 r) 0#32)
    (IntOp.addi (BitVec.ofNat 32 r) 200#32) (BitVec.ofNat 32 r) = BitVec.ofNat 32 r := by decide

/-- A position `r < 200` passes both bounds checks. -/
theorem inRange : ∀ r < 200, IntOp.andi (IntOp.cmpi .sge (BitVec.ofNat 32 r) 0#32)
    (IntOp.cmpi .sle (BitVec.ofNat 32 r) 199#32) = 1#1 := by decide

section
variable (bS : Sc.BroadcastsInDim Pos (![] : Fin 0 → Fin Pos.rank))
  (bC : Pos.BroadcastsInDim Col (![0] : Fin 1 → Fin Col.rank))
  (bSC : Sc.BroadcastsInDim Col (![] : Fin 0 → Fin Col.rank))
  (b1 : One.BroadcastsInDim OneOne (![1] : Fin 1 → Fin OneOne.rank))
  (b11 : OneOne.BroadcastsInDim Col (![0, 1] : Fin 2 → Fin Col.rank))
  (bT : Pos.BroadcastsInDim Tab (![0] : Fin 1 → Fin Tab.rank))
  (hred : Col.ReducesTo [1] Pos) (hSc : 0 < Sc.numel)

/-- The positions after the shift of negative ones, as the column of start indices that the gather reads. -/
abbrev column : IVec Col 32 :=
  broadcastInDim Col ![0] bC (select (cmpi .slt (iotaInDim Pos 32 0) (broadcastInDim Pos ![] bS (constantI Sc 32 0#32)))
    (addi (iotaInDim Pos 32 0) (broadcastInDim Pos ![] bS (constantI Sc 32 200#32))) (iotaInDim Pos 32 0))

/-- Entry `r` of the column is `r`. -/
theorem column_apply (j : Col.Idx) : column bS bC j = BitVec.ofNat 32 (j 0).val := by
  have h0 : (j 0).val < 200 := (j 0).isLt
  refine (broadcastInDim_apply _ _ _ j (ix1 (j 0)) fun a => ?_).trans (kept _ h0)
  match a with | ⟨0, _⟩ => rfl

/-- Every row is in range: the mask of the fill is set everywhere. -/
theorem mask_apply (i : Tab.Idx) : broadcastInDim Tab ![0] bT (Host.reduce IntOp.andi
    (andi (cmpi .sge (column bS bC) (broadcastInDim Col ![] bSC (constantI Sc 32 0#32)))
      (cmpi .sle (column bS bC) (broadcastInDim Col ![0, 1] b11 (broadcastInDim OneOne ![1] b1 (constantI One 32 199#32)))))
    (constantI Sc 1 1#1) hred hSc) i = 1#1 := by
  refine (broadcastInDim_apply _ _ _ i (ix1 (i 0)) fun a => by match a with | ⟨0, _⟩ => rfl).trans ?_
  refine Host.reduce_andi_one _ _ _ _ _ rfl fun j => ?_
  show IntOp.andi (IntOp.cmpi .sge (column bS bC j) 0#32) (IntOp.cmpi .sle (column bS bC j) 199#32) = 1#1
  rw [column_apply]
  exact inRange _ (j 0).isLt

/-- THE LOOKUP IS THE TABLE: the gather of the rows 0 … 199 behind its mask reads the table at the same index, whatever
    the fill. -/
theorem take_eq {α : Type} (d : GatherDims Tab Col Tab) (hoff : d.offsetDims = [1]) (hcoll : d.collapsedSliceDims = [0])
    (hob : d.operandBatchingDims = []) (hsim : d.startIndexMap = [0]) (hivd : d.indexVectorDim = 1) (table fill : Tab.Idx → α) :
    select (broadcastInDim Tab ![0] bT (Host.reduce IntOp.andi
      (andi (cmpi .sge (column bS bC) (broadcastInDim Col ![] bSC (constantI Sc 32 0#32)))
        (cmpi .sle (column bS bC) (broadcastInDim Col ![0, 1] b11 (broadcastInDim OneOne ![1] b1 (constantI One 32 199#32)))))
      (constantI Sc 1 1#1) hred hSc)) (Host.gather d table (column bS bC)) fill = table := by
  funext i
  have hi : i = ix2 (n0 := 200) (n1 := 128) (i 0) (i 1) := Shape.idx_ext₂ rfl rfl
  have hg : Host.gather d table (column bS bC) i = table i := by
    rw [hi]
    exact Routing.gather_row (nb := 200) (B := 128) (n := 200) d hoff hcoll hob hsim hivd table _ (i 0) (i 1) (i 0) (column_apply bS bC _) (by decide)
  show Scalar.select _ _ _ = _
  rw [mask_apply, hg]
  rfl

/-- What the reference computes at index `(b, p, d)`: `x[b, p, d] + table[p, d]`, the table being given a leading axis of
    extent one and then repeated along it for each of the 1024 batch rows. -/
theorem addTable_apply {F : FTy → Type} [FloatOps F] (b3 : Tab.BroadcastsInDim OneTab (![1, 2] : Fin 2 → Fin OneTab.rank))
    (bB : OneTab.BroadcastsInDim Batch (![0, 1, 2] : Fin 3 → Fin Batch.rank)) (x : FVec F Batch .f32) (table : FVec F Tab .f32)
    (i : Batch.Idx) :
    addf x (broadcastInDim Batch ![0, 1, 2] bB (broadcastInDim OneTab ![1, 2] b3 table)) i
      = FloatOps.addf (x i) (table (ix2 (n0 := 200) (n1 := 128) (i 1) (i 2))) := by
  refine congrArg (FloatOps.addf (x i)) ?_
  refine (broadcastInDim_apply _ _ _ i (ix3 (n0 := 1) (n1 := 200) (n2 := 128) 0 (i 1) (i 2)) fun a => ?_).trans
    (broadcastInDim_apply _ _ _ _ _ fun a => ?_)
  · match a with | ⟨0, _⟩ => rfl | ⟨1, _⟩ => rfl | ⟨2, _⟩ => rfl
  · match a with | ⟨0, _⟩ => rfl | ⟨1, _⟩ => rfl

/-- THE REFERENCE, WHOLE: the batch plus the repeated lookup is `x[b, p, d] + table[p, d]` at every index. -/
theorem reference_eq {F : FTy → Type} [FloatOps F] (b3 : Tab.BroadcastsInDim OneTab (![1, 2] : Fin 2 → Fin OneTab.rank))
    (bB : OneTab.BroadcastsInDim Batch (![0, 1, 2] : Fin 3 → Fin Batch.rank)) (d : GatherDims Tab Col Tab)
    (hoff : d.offsetDims = [1]) (hcoll : d.collapsedSliceDims = [0]) (hob : d.operandBatchingDims = [])
    (hsim : d.startIndexMap = [0]) (hivd : d.indexVectorDim = 1) (x : FVec F Batch .f32) (table fill : FVec F Tab .f32) :
    addf x (broadcastInDim Batch ![0, 1, 2] bB (broadcastInDim OneTab ![1, 2] b3
      (select (broadcastInDim Tab ![0] bT (Host.reduce IntOp.andi
        (andi (cmpi .sge (column bS bC) (broadcastInDim Col ![] bSC (constantI Sc 32 0#32)))
          (cmpi .sle (column bS bC) (broadcastInDim Col ![0, 1] b11 (broadcastInDim OneOne ![1] b1 (constantI One 32 199#32)))))
        (constantI Sc 1 1#1) hred hSc)) (Host.gather d table (column bS bC)) fill)))
      = fun i => FloatOps.addf (x i) (table (ix2 (n0 := 200) (n1 := 128) (i 1) (i 2))) := by
  rw [take_eq bS bC bSC b1 b11 bT hred hSc d hoff hcoll hob hsim hivd]
  exact funext (addTable_apply b3 bB x table)

end

end Cert.Positions

end
-- ==== Proof.lean ====
/-
  The proof of `Cert.Claim`: the frames of kernel and reference and of their idealizations, that the idealization is the
  kernel's own text, and the two value claims — equal extended reals, and equal words. Both value claims rest on one
  statement for any float values: either side ends with `x[b, p, d] + pos_table[p, d]` at every index `(b, p, d)`
  (`PosAdd.run` for the kernel; the generated run and `Positions` for the reference).
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.Reference.Run
public import proofs.«01_k».proof.Proof.Gen.ReferenceIdeal.Run
public import proofs.«01_k».proof.Proof.KernelValue
public import proofs.«01_k».proof.Proof.SameRun
public import proofs.«01_k».proof.Proof.Positions
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments and every semaphore counter as they were. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- So does its idealization. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel's result is the reference's: both are `x[b, p, d] + pos_table[p, d]`. -/
theorem algebraic : Cert.algebraic_KernelIdeal_ReferenceIdeal := by
  intro m ρ m' ρ' _ hagree
  refine ⟨fun c => Cert.KernelIdeal.PosAdd.posAdd m c, Cert.KernelIdeal.PosAdd.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.Positions.reference_eq _ _ _ _ _ _ _ _ _ _ _ rfl rfl rfl rfl rfl _ _ _

/-- As float words, too: each is the float sum of the same two words, in the same order. -/
theorem bitexact : Cert.bitexact_Kernel_Reference := by
  intro m ρ m' ρ' _ hagree
  refine ⟨_, Cert.Kernel.PosAdd.run (F := Bits) m ρ, ?_⟩
  refine (θ_run Cert.Reference.defs _ _).mono (fun _ h c => ⟨(h c).1.trans ?_, (h c).2⟩)
    (Cert.Reference.Value.run (F := Bits) m' ρ')
  rw [(hagree c).1, (hagree c).2]
  exact Cert.Positions.reference_eq _ _ _ _ _ _ _ _ _ _ _ rfl rfl rfl rfl rfl _ _ _

theorem claim : Cert.Claim := ⟨Cert.Kernel.Gen.facts, Cert.KernelIdeal.Gen.facts, Cert.Reference.Gen.facts,
  Cert.ReferenceIdeal.Gen.facts, fun m ρ _ => Cert.Kernel.Gen.frame m ρ, fun m ρ _ => Cert.KernelIdeal.Gen.frame m ρ,
  frame_reference, frame_referenceIdeal, trivial, algebraic, bitexact⟩

end Cert.Proof

end
